-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S10x1x10000 : Shape := ⟨3, ![10, 1, 10000]⟩
abbrev S64x512 : Shape := ⟨2, ![64, 512]⟩
abbrev S10000x512 : Shape := ⟨2, ![10000, 512]⟩
abbrev S1x1x10000 : Shape := ⟨3, ![1, 1, 10000]⟩
abbrev S1x256 : Shape := ⟨2, ![1, 256]⟩
abbrev S2000x512 : Shape := ⟨2, ![2000, 512]⟩
abbrev S2000x256 : Shape := ⟨2, ![2000, 256]⟩
abbrev S1x2000 : Shape := ⟨2, ![1, 2000]⟩
abbrev S1x1x2000 : Shape := ⟨3, ![1, 1, 2000]⟩
abbrev S64x2000 : Shape := ⟨2, ![64, 2000]⟩

abbrev nBuf : Space → Nat
  | .hbm => 10
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S100000, .f32⟩
  | .hbm, ⟨2, _⟩ => ⟨S100000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S10x1x10000, .f32⟩
  | .hbm, ⟨8, _⟩ => ⟨S10x1x10000, .i32⟩
  | .hbm, ⟨9, _⟩ => ⟨S64x512, .f32⟩
  | .local _ .vmem, ⟨0, _⟩ => ⟨S10000x512, .f32⟩
  | .local _ .vmem, ⟨1, _⟩ => ⟨S10000x512, .f32⟩
  | .local _ .vmem, ⟨2, _⟩ => ⟨S1x1x10000, .f32⟩
  | .local _ .vmem, ⟨3, _⟩ => ⟨S1x1x10000, .f32⟩
  | .local _ .vmem, ⟨4, _⟩ => ⟨S1x1x10000, .i32⟩
  | .local _ .vmem, ⟨5, _⟩ => ⟨S1x1x10000, .i32⟩
  | .local _ .vmem, ⟨6, _⟩ => ⟨S512x256, .f32⟩
  | .local _ .vmem, ⟨7, _⟩ => ⟨S256, .f32⟩
  | .local _ .vmem, ⟨8, _⟩ => ⟨S256x1, .f32⟩
  | .local _ .vmem, ⟨9, _⟩ => ⟨S1, .f32⟩
  | .local _ .vmem, ⟨10, _⟩ => ⟨S64x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v164 : BitVec 1 := Scalar.cmpi .eq arg0 c0_i32
  let v165 : BitVec 32 := Scalar.extui v164
  let c0_i32_87 : BitVec 32 := 0#32
  let v166 : BitVec 1 := Scalar.cmpi .ne v165 c0_i32_87
  v166

def k0_cond2 (i : grid0.Coords) : BitVec 1 :=
  let arg0 : BitVec 32 := BitVec.ofNat 32 (i 0).val
  let c0_i32_88 : BitVec 32 := 0#32
  let v167 : BitVec 1 := Scalar.cmpi .ne arg0 c0_i32_88
  let v168 : BitVec 32 := Scalar.extui v167
  let c0_i32_89 : BitVec 32 := 0#32
  let v169 : BitVec 1 := Scalar.cmpi .ne v168 c0_i32_89
  v169

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000x256 : Shape := ⟨2, ![100000, 256]⟩
abbrev S1x256 : Shape := ⟨2, ![1, 256]⟩
abbrev S_ : Shape := ⟨0, ![]⟩
abbrev S100000x1 : Shape := ⟨2, ![100000, 1]⟩
abbrev S1x1 : Shape := ⟨2, ![1, 1]⟩
abbrev S64x512 : Shape := ⟨2, ![64, 512]⟩

abbrev nBuf : Space → Nat
  | .hbm => 41
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .f32⟩
  | .hbm, ⟨2, _⟩ => ⟨S100000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S100000x256, .f32⟩
  | .hbm, ⟨8, _⟩ => ⟨S1x256, .f32⟩
  | .hbm, ⟨9, _⟩ => ⟨S100000x256, .f32⟩
  | .hbm, ⟨10, _⟩ => ⟨S100000x256, .f32⟩
  | .hbm, ⟨11, _⟩ => ⟨S_, .f32⟩
  | .hbm, ⟨12, _⟩ => ⟨S100000x256, .f32⟩
  | .hbm, ⟨13, _⟩ => ⟨S100000x256, .f32⟩
  | .hbm, ⟨14, _⟩ => ⟨S100000x1, .f32⟩
  | .hbm, ⟨15, _⟩ => ⟨S1x1, .f32⟩
  | .hbm, ⟨16, _⟩ => ⟨S100000x1, .f32⟩
  | .hbm, ⟨17, _⟩ => ⟨S100000x1, .f32⟩
  | .hbm, ⟨18, _⟩ => ⟨S100000x1, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S_, .f32⟩
  | .hbm, ⟨38, _⟩ => ⟨S64x512, .f32⟩
  | .hbm, ⟨39, _⟩ => ⟨S100000x1, .i32⟩
  | .hbm, ⟨40, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Pooling.lean ====
/- The mathematics both programs share: the weight that a row of `x` gets, and the pooled sums over graphs.
   Everything is over the extended reals; no program is mentioned here. -/
module

public import Idealize.ShloMosaic.Lib.Pointwise
public import Idealize.ShloMosaic.PureOps.Ideal

@[expose] public section

noncomputable section

namespace Cert.Pooling

open Idealize.ShloMosaic

/-- Component `j` of a row's hidden layer: the row times column `j` of the first weight matrix, plus the bias, clipped at zero. -/
def hiddenUnit (row : Fin 512 → EReal) (W1 : Fin 512 → Fin 256 → EReal) (b1 : Fin 256 → EReal) (j : Fin 256) : EReal :=
  max ((∑ k : Fin 512, row k * W1 k j) + b1 j) 0

/-- The weight of a row: the logistic function of its logit, times one plus twice its hub score. -/
def weight (W1 : Fin 512 → Fin 256 → EReal) (b1 W2 : Fin 256 → EReal) (b2 : EReal) (row : Fin 512 → EReal) (hub : EReal) : EReal :=
  Ideal.logistic ((∑ j : Fin 256, hiddenUnit row W1 b1 j * W2 j) + b2) * (1 + Ideal.ofBits .f32 0x40000000#32 * hub)

/-- What one row adds to graph `g` in column `d`: its entry times its weight when the row's graph number, read signed, is `g`,
    and nothing otherwise. -/
def contrib (w : EReal) (entry : EReal) (graph : BitVec 32) (g : Fin 64) : EReal :=
  if graph.toInt = (g.val : Int) then entry * w else 0

/-- What row `r` of the whole input adds to graph `g` in column `d`. -/
def rowTerm (X : FVec Ideal ⟨2, ![100000, 512]⟩ .f32) (hub : FVec Ideal ⟨1, ![100000]⟩ .f32) (gr : IVec ⟨1, ![100000]⟩ 32)
    (W1 : FVec Ideal ⟨2, ![512, 256]⟩ .f32) (b1 : FVec Ideal ⟨1, ![256]⟩ .f32) (W2 : FVec Ideal ⟨2, ![256, 1]⟩ .f32) (b2 : FVec Ideal ⟨1, ![1]⟩ .f32)
    (g : Fin 64) (d : Fin 512) (r : Fin 100000) : EReal :=
  contrib (weight (fun k j => W1 (ix2 k j)) (fun j => b1 (ix1 j)) (fun j => W2 (ix2 j (0 : Fin 1))) (b2 (ix1 (0 : Fin 1)))
    (fun k => X (ix2 r k)) (hub (ix1 r))) (X (ix2 r d)) (gr (ix1 r)) g

/-- The pooled result: at graph `g` and column `d`, the sum of every row's contribution. -/
def pooled (X : FVec Ideal ⟨2, ![100000, 512]⟩ .f32) (hub : FVec Ideal ⟨1, ![100000]⟩ .f32) (gr : IVec ⟨1, ![100000]⟩ 32)
    (W1 : FVec Ideal ⟨2, ![512, 256]⟩ .f32) (b1 : FVec Ideal ⟨1, ![256]⟩ .f32) (W2 : FVec Ideal ⟨2, ![256, 1]⟩ .f32) (b2 : FVec Ideal ⟨1, ![1]⟩ .f32) :
    FVec Ideal ⟨2, ![64, 512]⟩ .f32 :=
  fun i => ∑ r : Fin 100000, rowTerm X hub gr W1 b1 W2 b2 (i 0) (i 1) r

/-- A 32-bit word is the word of a graph number `g < 64` exactly when its signed reading is `g`. -/
theorem eq_ofNat_iff (b : BitVec 32) (g : Fin 64) : b = BitVec.ofNat 32 g.val ↔ b.toInt = (g.val : Int) := by
  have hg := g.isLt
  have hn : (BitVec.ofNat 32 g.val).toInt = (g.val : Int) := by
    rw [BitVec.toInt_eq_toNat_cond, BitVec.toNat_ofNat]
    have : g.val % 2 ^ 32 = g.val := Nat.mod_eq_of_lt (by omega)
    rw [this]; split <;> omega
  constructor
  · rintro rfl; exact hn
  · intro h; exact BitVec.eq_of_toInt_eq (h.trans hn.symm)

end Cert.Pooling

end
-- ==== Proof.Chunk.lean ====
/- One grid point of the kernel: five chunks of 2000 rows, each adding its rows' weighted entries to the graphs they belong to. -/
module

public import proofs.«01_k».proof.Proof.Gen.KernelIdeal.Skeleton
public import Idealize.ShloMosaic.Lib.Pipeline.ValueKit
public import proofs.«01_k».proof.Proof.Pooling

@[expose] public section

set_option maxRecDepth 16384

noncomputable section

namespace Cert.KernelIdeal.Pool

open Idealize.ShloMosaic Cert.KernelIdeal Cert.KernelIdeal.Gen Cert.Pooling

/-- Choosing a value where the graph word is `g`'s word is choosing it where the graph number, read signed, is `g`. -/
theorem select_graph (b : BitVec 32) (g : Fin 64) (w e : EReal) :
    Scalar.select (IntOp.cmpi CmpIPredicate.eq b (BitVec.ofNat 32 g.val)) (w * e) 0 = contrib w e b g := by
  have h : IntOp.cmpi CmpIPredicate.eq b (BitVec.ofNat 32 g.val) = if b.toInt = (g.val : Int) then 1#1 else 0#1 := by
    by_cases hb : b = BitVec.ofNat 32 g.val
    · rw [if_pos ((eq_ofNat_iff b g).1 hb), hb]
      simp [IntOp.cmpi]
    · rw [if_neg fun h => hb ((eq_ofNat_iff b g).2 h)]
      show BitVec.ofBool (b == BitVec.ofNat 32 g.val) = 0#1
      rw [beq_eq_false_iff_ne.2 hb]; rfl
  unfold contrib
  rw [h, mul_comm]
  by_cases hb : b.toInt = (g.val : Int)
  · rw [if_pos hb, if_pos hb]; rfl
  · rw [if_neg hb, if_neg hb]; rfl

/-- What one row of a chunk adds to graph `g` in column `d`, from the chunk's rows `x`, hub scores and graph numbers at row `q`. -/
def rowPart {n : Nat} (W1 : FVec Ideal S512x256 .f32) (b1 : FVec Ideal S256 .f32) (W2 : FVec Ideal S256x1 .f32) (b2 : FVec Ideal S1 .f32)
    (x : FVec Ideal ⟨2, ![n, 512]⟩ .f32) (hub : FVec Ideal ⟨3, ![1, 1, n]⟩ .f32) (gr : IVec ⟨3, ![1, 1, n]⟩ 32)
    (g : Fin 64) (d : Fin 512) (q : Fin n) : EReal :=
  contrib (weight (fun k j => W1 (ix2 k j)) (fun j => b1 (ix1 j)) (fun j => W2 (ix2 j (0 : Fin 1))) (b2 (ix1 (0 : Fin 1)))
    (fun k => x (ix2 q k)) (hub (ix3 (0 : Fin 1) (0 : Fin 1) q))) (x (ix2 q d)) (gr (ix3 (0 : Fin 1) (0 : Fin 1) q)) g

/-- One chunk's partial result at `(g, d)`: the sum over the chunk's rows. -/
theorem chunk_apply (W2 : FVec Ideal S256x1 .f32) (b1 : FVec Ideal S256 .f32) (x : FVec Ideal S2000x512 .f32)
    (W1 : FVec Ideal S512x256 .f32) (b2 : FVec Ideal S1 .f32) (hub : FVec Ideal S1x1x2000 .f32) (gr : IVec S1x1x2000 32)
    (g : Fin 64) (d : Fin 512) :
    k0_pay5 (F := Ideal) W2 b1 x W1 b2 hub gr (ix2 g d) = ∑ q : Fin 2000, rowPart W1 b1 W2 b2 x hub gr g d q := by
  pointwise [k0_pay5, k0_pay3, k0_pay4]
  refine Finset.sum_congr rfl fun q _ => ?_
  rw [select_graph]
  unfold rowPart weight hiddenUnit
  simp only [mul_comm (W2 _)]

/-- The five chunks the kernel writes in different forms are one function of their rows; the point's result is their sum, left to right. -/
theorem point_eq (W2 : FVec Ideal S256x1 .f32) (b1 : FVec Ideal S256 .f32) (W1 : FVec Ideal S512x256 .f32) (b2 : FVec Ideal S1 .f32)
    (x0 x1 x2 x3 x4 : FVec Ideal S2000x512 .f32) (h0 h1 h2 h3 h4 : FVec Ideal S1x1x2000 .f32) (g0 g1 g2 g3 g4 : IVec S1x1x2000 32) :
    k0_pay1 (F := Ideal) (k0_pay5 W2 b1 x0 W1 b2 h0 g0)
        (k0_pay6 (k0_pay3 W2) (k0_pay4 b1) x1 W1 b2 h1 g1)
        (k0_pay9 (k0_pay3 W2) x2 (k0_pay7 (k0_pay4 b1) x2 W1) k0_pay8 b2 h2 g2)
        (k0_pay11 x3 (k0_pay10 (k0_pay3 W2) (k0_pay4 b1) x3 W1 b2) h3 g3)
        x4 (k0_pay12 (k0_pay3 W2) (k0_pay4 b1) x4 W1 b2 h4)
        (iota .tc S64x2000 32 [0] iota_S64x2000_d0_w32) g4
      = addf (addf (addf (addf (k0_pay5 W2 b1 x0 W1 b2 h0 g0) (k0_pay5 W2 b1 x1 W1 b2 h1 g1)) (k0_pay5 W2 b1 x2 W1 b2 h2 g2))
          (k0_pay5 W2 b1 x3 W1 b2 h3 g3)) (k0_pay5 W2 b1 x4 W1 b2 h4 g4) := rfl

/-- The later points' store adds the same sum to what the result held. -/
theorem step_eq (p0 p1 p2 p3 : FVec Ideal S64x512 .f32) (x4 : FVec Ideal S2000x512 .f32) (w4 : FVec Ideal S1x2000 .f32)
    (io : IVec S64x2000 32) (g4 : IVec S1x1x2000 32) (acc : FVec Ideal S64x512 .f32) (g : Fin 64) (d : Fin 512) :
    k0_pay2 (F := Ideal) p0 p1 p2 p3 x4 w4 io g4 acc (ix2 g d) = acc (ix2 g d) + k0_pay1 (F := Ideal) p0 p1 p2 p3 x4 w4 io g4 (ix2 g d) := by
  show shapeCast S64x512 acc _ (ix2 g d) + k0_pay1 (F := Ideal) p0 p1 p2 p3 x4 w4 io g4 (ix2 g d) = _
  refine congrArg (· + k0_pay1 (F := Ideal) p0 p1 p2 p3 x4 w4 io g4 (ix2 g d)) ?_
  pointwise

/-- The 2000 rows loaded from the block at row offset `o`. -/
abbrev rowsAt (x : FVec Ideal S10000x512 .f32) (o : Nat) (inb : ∀ a, (![o, 0] : Fin 2 → Nat) a + S2000x512.size a ≤ S10000x512.size a) :
    FVec Ideal S2000x512 .f32 :=
  View.ld (Val := Elt Ideal) (e' := .f32) x (Rect.unit (s := S10000x512) ![o, 0] ![2000, 512] inb)

/-- The 2000 hub scores loaded from the block at lane offset `o`. -/
abbrev hubAt (x : FVec Ideal S1x1x10000 .f32) (o : Nat) (inb : ∀ a, (![0, 0, o] : Fin 3 → Nat) a + S1x1x2000.size a ≤ S1x1x10000.size a) :
    FVec Ideal S1x1x2000 .f32 :=
  View.ld (Val := Elt Ideal) (e' := .f32) x (Rect.unit (s := S1x1x10000) ![0, 0, o] ![1, 1, 2000] inb)

/-- The 2000 graph numbers loaded from the block at lane offset `o`. -/
abbrev graphAt (x : IVec S1x1x10000 32) (o : Nat) (inb : ∀ a, (![0, 0, o] : Fin 3 → Nat) a + S1x1x2000.size a ≤ S1x1x10000.size a) :
    IVec S1x1x2000 32 :=
  View.ld (Val := Elt Ideal) (e' := .i32) x (Rect.unit (s := S1x1x10000) ![0, 0, o] ![1, 1, 2000] inb)

/-- Row `q` of the rows loaded at row offset `o` is row `o + q` of the block. -/
theorem ld_rows (x : FVec Ideal S10000x512 .f32) (o : Nat) (inb : ∀ a, (![o, 0] : Fin 2 → Nat) a + S2000x512.size a ≤ S10000x512.size a)
    (q : Fin 2000) (k : Fin 512) (r : Fin 10000) (hr : r.val = o + q.val) :
    rowsAt x o inb (ix2 q k) = x (ix2 r k) := by
  refine congrArg x (funext fun a => Fin.ext ?_)
  match a with
  | ⟨0, _⟩ => show o + 1 * q.val = r.val; omega
  | ⟨1, _⟩ => show 0 + 1 * k.val = k.val; omega

/-- Hub score `q` of those loaded at lane offset `o` is score `o + q` of the block. -/
theorem ld_hub (x : FVec Ideal S1x1x10000 .f32) (o : Nat) (inb : ∀ a, (![0, 0, o] : Fin 3 → Nat) a + S1x1x2000.size a ≤ S1x1x10000.size a)
    (q : Fin 2000) (r : Fin 10000) (hr : r.val = o + q.val) :
    hubAt x o inb (ix3 (0 : Fin 1) (0 : Fin 1) q) = x (ix3 (0 : Fin 1) (0 : Fin 1) r) := by
  refine congrArg x (funext fun a => Fin.ext ?_)
  match a with
  | ⟨0, _⟩ => rfl
  | ⟨1, _⟩ => rfl
  | ⟨2, _⟩ => show o + 1 * q.val = r.val; omega

/-- Graph number `q` of those loaded at lane offset `o` is number `o + q` of the block. -/
theorem ld_graph (x : IVec S1x1x10000 32) (o : Nat) (inb : ∀ a, (![0, 0, o] : Fin 3 → Nat) a + S1x1x2000.size a ≤ S1x1x10000.size a)
    (q : Fin 2000) (r : Fin 10000) (hr : r.val = o + q.val) :
    graphAt x o inb (ix3 (0 : Fin 1) (0 : Fin 1) q) = x (ix3 (0 : Fin 1) (0 : Fin 1) r) := by
  refine congrArg x (funext fun a => Fin.ext ?_)
  match a with
  | ⟨0, _⟩ => rfl
  | ⟨1, _⟩ => rfl
  | ⟨2, _⟩ => show o + 1 * q.val = r.val; omega

/-- The chunk loaded from the block at row offset `o` contributes the block's rows `o`, …, `o + 1999`. -/
theorem chunk_ld (W1 : FVec Ideal S512x256 .f32) (b1 : FVec Ideal S256 .f32) (W2 : FVec Ideal S256x1 .f32) (b2 : FVec Ideal S1 .f32)
    (x : FVec Ideal S10000x512 .f32) (hub : FVec Ideal S1x1x10000 .f32) (gr : IVec S1x1x10000 32) (o : Nat)
    (hx : ∀ a, (![o, 0] : Fin 2 → Nat) a + S2000x512.size a ≤ S10000x512.size a)
    (hl : ∀ a, (![0, 0, o] : Fin 3 → Nat) a + S1x1x2000.size a ≤ S1x1x10000.size a) (ho : o + 2000 ≤ 10000)
    (g : Fin 64) (d : Fin 512) :
    k0_pay5 (F := Ideal) W2 b1 (rowsAt x o hx) W1 b2
        (hubAt hub o hl)
        (graphAt gr o hl) (ix2 g d)
      = ∑ q : Fin 2000, rowPart W1 b1 W2 b2 x hub gr g d ⟨o + q.val, by omega⟩ := by
  rw [chunk_apply]
  refine Finset.sum_congr rfl fun q _ => ?_
  unfold rowPart
  rw [ld_rows x o hx q d ⟨o + q.val, by omega⟩ rfl, ld_hub hub o hl q ⟨o + q.val, by omega⟩ rfl,
    ld_graph gr o hl q ⟨o + q.val, by omega⟩ rfl]
  simp only [fun k => ld_rows x o hx q k ⟨o + q.val, by omega⟩ rfl]

/-- A grid point's five chunks together contribute every row of its block. -/
theorem point_apply (W1 : FVec Ideal S512x256 .f32) (b1 : FVec Ideal S256 .f32) (W2 : FVec Ideal S256x1 .f32) (b2 : FVec Ideal S1 .f32)
    (x : FVec Ideal S10000x512 .f32) (hub : FVec Ideal S1x1x10000 .f32) (gr : IVec S1x1x10000 32) (g : Fin 64) (d : Fin 512) :
    k0_pay1 (F := Ideal)
        (k0_pay5 W2 b1 (rowsAt x 0 inb_S10000x512_S2000x512_0_0) W1 b2
          (hubAt hub 0 inb_S1x1x10000_S1x1x2000_0_0_0)
          (graphAt gr 0 inb_S1x1x10000_S1x1x2000_0_0_0))
        (k0_pay6 (k0_pay3 W2) (k0_pay4 b1) (rowsAt x 2000 inb_S10000x512_S2000x512_2000_0) W1 b2
          (hubAt hub 2000 inb_S1x1x10000_S1x1x2000_0_0_2000)
          (graphAt gr 2000 inb_S1x1x10000_S1x1x2000_0_0_2000))
        (k0_pay9 (k0_pay3 W2) (rowsAt x 4000 inb_S10000x512_S2000x512_4000_0)
          (k0_pay7 (k0_pay4 b1) (rowsAt x 4000 inb_S10000x512_S2000x512_4000_0) W1) k0_pay8 b2
          (hubAt hub 4000 inb_S1x1x10000_S1x1x2000_0_0_4000)
          (graphAt gr 4000 inb_S1x1x10000_S1x1x2000_0_0_4000))
        (k0_pay11 (rowsAt x 6000 inb_S10000x512_S2000x512_6000_0)
          (k0_pay10 (k0_pay3 W2) (k0_pay4 b1) (rowsAt x 6000 inb_S10000x512_S2000x512_6000_0) W1 b2)
          (hubAt hub 6000 inb_S1x1x10000_S1x1x2000_0_0_6000)
          (graphAt gr 6000 inb_S1x1x10000_S1x1x2000_0_0_6000))
        (rowsAt x 8000 inb_S10000x512_S2000x512_8000_0)
        (k0_pay12 (k0_pay3 W2) (k0_pay4 b1) (rowsAt x 8000 inb_S10000x512_S2000x512_8000_0) W1 b2
          (hubAt hub 8000 inb_S1x1x10000_S1x1x2000_0_0_8000))
        (iota .tc S64x2000 32 [0] iota_S64x2000_d0_w32)
        (graphAt gr 8000 inb_S1x1x10000_S1x1x2000_0_0_8000) (ix2 g d)
      = ∑ q : Fin 10000, rowPart W1 b1 W2 b2 x hub gr g d q := by
  refine (congrFun (point_eq W2 b1 W1 b2 _ _ _ _ _ _ _ _ _ _ _ _ _ _ _) (ix2 g d)).trans ?_
  rw [Fin.sum_univ_tiles 5 2000 rfl, Fin.sum_univ_five]
  refine congrArg₂ (· + ·) (congrArg₂ (· + ·) (congrArg₂ (· + ·) (congrArg₂ (· + ·) ?_ ?_) ?_) ?_) ?_
  · exact chunk_ld W1 b1 W2 b2 x hub gr 0 _ _ (by omega) g d
  · exact chunk_ld W1 b1 W2 b2 x hub gr 2000 _ _ (by omega) g d
  · exact chunk_ld W1 b1 W2 b2 x hub gr 4000 _ _ (by omega) g d
  · exact chunk_ld W1 b1 W2 b2 x hub gr 6000 _ _ (by omega) g d
  · exact chunk_ld W1 b1 W2 b2 x hub gr 8000 _ _ (by omega) g d

end Cert.KernelIdeal.Pool

end
-- ==== Proof.Result.lean ====
/- What the kernel's result array holds after the run: the pooled sums of the arguments. -/
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.Chunk

@[expose] public section

set_option maxRecDepth 16384

noncomputable section

namespace Cert.KernelIdeal.Pool

open Idealize.ShloMosaic Idealize.ShloMosaic.TcCoe Idealize.SL.Sem Cert.KernelIdeal Cert.KernelIdeal.Gen Cert.Pooling

variable (m : (ℓ : Loc nD τ sig) → Buf (Elt Ideal) ℓ)

/-- Which block each window reads at grid point `t`: the rows', hub scores' and graph numbers' block `t`, the weights' only block. -/
theorem idx : ∀ t : Fin cfg0.N, win0_0.index t = ![t.val, 0] ∧ win0_1.index t = ![t.val, 0, 0] ∧ win0_2.index t = ![t.val, 0, 0]
    ∧ win0_3.index t = ![0, 0] ∧ win0_4.index t = ![0] ∧ win0_5.index t = ![0, 0] ∧ win0_6.index t = ![0] ∧ win0_7.index t = ![0, 0] ∧ t.val < 10 :=
  (by decide +kernel : ∀ t : Fin grid0.N, _)

/-- Row `q` of block `t` of the rows is row `10000 * t + q` of the argument. -/
theorem blk_rows (c : Dev nD) (t : Fin cfg0.N) (q : Fin 10000) (k : Fin 512) (r : Fin 100000) (hr : r.val = t.val * 10000 + q.val) :
    (show FVec Ideal S10000x512 .f32 from iblk m c 0 t) (ix2 q k) = (m ((c : Thread nD τ).loc main_arg0) : FVec Ideal S100000x512 .f32) (ix2 r k) := by
  blk_ext [iblk, V, idx t]

/-- Lane `q` of block `t` of the hub scores is score `10000 * t + q` of the argument. -/
theorem blk_hub (c : Dev nD) (t : Fin cfg0.N) (q : Fin 10000) (r : Fin 100000) (hr : r.val = t.val * 10000 + q.val) :
    (show FVec Ideal S1x1x10000 .f32 from iblk m c 1 t) (ix3 (0 : Fin 1) (0 : Fin 1) q) = (m ((c : Thread nD τ).loc main_arg1) : FVec Ideal S100000 .f32) (ix1 r) := by
  blk_point [iblk, V, idx t]

/-- Lane `q` of block `t` of the graph numbers is number `10000 * t + q` of the argument. -/
theorem blk_graph (c : Dev nD) (t : Fin cfg0.N) (q : Fin 10000) (r : Fin 100000) (hr : r.val = t.val * 10000 + q.val) :
    (show IVec S1x1x10000 32 from iblk m c 2 t) (ix3 (0 : Fin 1) (0 : Fin 1) q) = (m ((c : Thread nD τ).loc main_arg2) : IVec S100000 32) (ix1 r) := by
  blk_point [iblk, V, idx t]

/-- The block of the first weight matrix is the whole argument at every grid point. -/
theorem blk_W1 (c : Dev nD) (t : Fin cfg0.N) : iblk m c 3 t = m ((c : Thread nD τ).loc main_arg3) := by
  blk_ext! [iblk, V, idx t]

/-- The block of the first bias is the whole argument at every grid point. -/
theorem blk_b1 (c : Dev nD) (t : Fin cfg0.N) : iblk m c 4 t = m ((c : Thread nD τ).loc main_arg4) := by
  blk_ext! [iblk, V, idx t]

/-- The block of the second weight matrix is the whole argument at every grid point. -/
theorem blk_W2 (c : Dev nD) (t : Fin cfg0.N) : iblk m c 5 t = m ((c : Thread nD τ).loc main_arg5) := by
  blk_ext! [iblk, V, idx t]

/-- The block of the second bias is the whole argument at every grid point. -/
theorem blk_b2 (c : Dev nD) (t : Fin cfg0.N) : iblk m c 6 t = m ((c : Thread nD τ).loc main_arg6) := by
  blk_ext! [iblk, V, idx t]

/-- A row's contribution read from the blocks at grid point `t` is the contribution of row `10000 * t + q` of the arguments. -/
theorem rowPart_blk (c : Dev nD) (t : Fin cfg0.N) (g : Fin 64) (d : Fin 512) (q : Fin 10000) (r : Fin 100000) (hr : r.val = t.val * 10000 + q.val) :
    rowPart (n := 10000) (iblk m c 3 t) (iblk m c 4 t) (iblk m c 5 t) (iblk m c 6 t) (iblk m c 0 t) (iblk m c 1 t) (iblk m c 2 t) g d q
      = rowTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) g d r := by
  rw [blk_W1, blk_b1, blk_W2, blk_b2]
  unfold rowPart rowTerm
  have hx := fun k => blk_rows m c t q k r hr
  have hh := blk_hub m c t q r hr
  have hg := blk_graph m c t q r hr
  dsimp only at hx hh hg
  rw [hx d, hh, hg]
  simp only [hx]

/-- Grid point `t`'s sum over its block's rows, at graph `g` and column `d`. -/
abbrev term (c : Dev nD) (t : Fin cfg0.N) (j : S64x512.Idx) : EReal :=
  ∑ q : Fin 10000, rowPart (n := 10000) (iblk m c 3 t) (iblk m c 4 t) (iblk m c 5 t) (iblk m c 6 t) (iblk m c 0 t) (iblk m c 1 t) (iblk m c 2 t)
    (j 0) (j 1) q

/-- The first grid point leaves its block's sum in the result buffer. -/
theorem first_point (c : Dev nD) (t : Fin cfg0.N) (h0 : t.val % 10 = 0) (h1 : ¬1 ≤ t.val) (j : S64x512.Idx) :
    outsAt0 m c t.val t.isLt j = term m c t j := by
  rw [outsAt0_A m c t h0 h1]
  frame_out
  idx_vars j
  exact point_apply (iblk m c 3 t) (iblk m c 4 t) (iblk m c 5 t) (iblk m c 6 t) (iblk m c 0 t) (iblk m c 1 t) (iblk m c 2 t) _ _

/-- A later grid point adds its block's sum to what the point before left. -/
theorem later_point (c : Dev nD) (t : Fin cfg0.N) (h0 : ¬t.val % 10 = 0) (h1 : 1 ≤ t.val) (j : S64x512.Idx) :
    outsAt0 m c t.val t.isLt j = outsAt0 m c (t.val - 1) (Nat.lt_of_le_of_lt (Nat.sub_le _ _) t.isLt) j + term m c t j := by
  rw [outsAt0_B m c t h0 h1]
  frame_out
  idx_vars j
  refine (step_eq _ _ _ _ _ _ _ _ _ _ _).trans (congrArg (_ + ·) ?_)
  exact point_apply (iblk m c 3 t) (iblk m c 4 t) (iblk m c 5 t) (iblk m c 6 t) (iblk m c 0 t) (iblk m c 1 t) (iblk m c 2 t) _ _

/-- The last grid point leaves the sum of every point's blocks. -/
theorem last_point (c : Dev nD) (j : S64x512.Idx) :
    outsAt0 m c t0_9.val t0_9.isLt j = ∑ t : Fin cfg0.N, term m c t j := by
  rw [Pipeline.eq_sum_fin_of_reset_step_apply_last (fun n h => outsAt0 m c n h) 10 (fun _ => (0 : EReal)) (fun t j => term m c t j)
    (fun t h j => by rw [first_point m c t h (by have := (idx t).2.2.2.2.2.2.2.2; omega) j, zero_add])
    (fun t h j => later_point m c t h (by omega) j)
    (le_of_eq N_0) t0_9 rfl j, zero_add]

/-- The ten points' sums over their 10000 rows are one sum over the 100000 rows. -/
theorem sum_terms (c : Dev nD) (j : S64x512.Idx) :
    ∑ t : Fin cfg0.N, term m c t j
      = pooled (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) j := by
  unfold pooled
  rw [Fin.sum_univ_tiles 10 10000 rfl]
  refine Finset.sum_congr rfl fun t _ => Finset.sum_congr rfl fun q _ => ?_
  exact rowPart_blk m c t _ _ q _ rfl

/-- The result array after the run holds the pooled sums of the arguments. -/
theorem final (c : Dev nD) :
    (dats m 0 c).arrAt 7 cfg0.N
      = pooled (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_after_last 7 t0_9 (by decide +kernel) _ fun j => ?_
  blk_simp
  rw [after0_7, last_point]
  exact sum_terms m c j

end Cert.KernelIdeal.Pool

end
-- ==== Proof.RefScatter.lean ====
/- The reference's segment sum at an index: where an update lands, and the sum over the updates that land there. -/
module

public import proofs.«01_k».proof.Proof.Gen.ReferenceIdeal
public import proofs.«01_k».proof.Proof.Pooling

@[expose] public section

set_option maxRecDepth 16384

noncomputable section

namespace Cert.ReferenceIdeal.Segment

open Idealize.ShloMosaic Cert.ReferenceIdeal Cert.ReferenceIdeal.Gen

/-- Along the graph axis an update starts at its row's index word, read signed. -/
theorem start_graph (idx : IVec S100000x1 32) (r : Fin 100000) (e : Fin 512) :
    ScatterDims.start scatter_S64x512_S100000x1_S100000x512_1_0_0_1 (ix2 r e) idx 0 = (idx (ix2 r (0 : Fin 1))).toInt := by
  have h : (0 : Fin 2) ∈ ScatterDims.scatterDimsToOperandDims scatter_S64x512_S100000x1_S100000x512_1_0_0_1 := by decide
  unfold ScatterDims.start
  rw [dif_pos h]
  congr 2
  funext b
  match b with
  | ⟨0, _⟩ => rfl
  | ⟨1, _⟩ => rfl

/-- Along the column axis an update starts at zero. -/
theorem start_col (idx : IVec S100000x1 32) (r : Fin 100000) (e : Fin 512) :
    ScatterDims.start scatter_S64x512_S100000x1_S100000x512_1_0_0_1 (ix2 r e) idx 1 = 0 := by
  unfold ScatterDims.start
  exact dif_neg (by decide)

/-- Along the graph axis an update's window is one graph wide. -/
theorem window_graph (r : Fin 100000) (e : Fin 512) : ScatterDims.window scatter_S64x512_S100000x1_S100000x512_1_0_0_1 (ix2 r e) 0 = 0 := by
  unfold ScatterDims.window
  exact dif_neg (by decide)

/-- Along the column axis an update's position in its window is its column. -/
theorem window_col (r : Fin 100000) (e : Fin 512) : ScatterDims.window scatter_S64x512_S100000x1_S100000x512_1_0_0_1 (ix2 r e) 1 = e.val := by
  have h : (1 : Fin 2) ∈ ScatterDims.sKept scatter_S64x512_S100000x1_S100000x512_1_0_0_1 := by decide
  unfold ScatterDims.window
  rw [dif_pos h]
  rfl

/-- Update `(r, e)` lands at `(g, d)` exactly when row `r`'s index word, read signed, is `g` and `e` is `d`. -/
theorem lands (idx : IVec S100000x1 32) (r : Fin 100000) (e : Fin 512) (g : Fin 64) (d : Fin 512) :
    ScatterDims.resultIdx? scatter_S64x512_S100000x1_S100000x512_1_0_0_1 (ix2 r e) idx = some (ix2 g d) ↔ (idx (ix2 r (0 : Fin 1))).toInt = (g.val : Int) ∧ e = d := by
  have s0 := start_graph idx r e
  have s1 := start_col idx r e
  have w0 := window_graph r e
  have w1 := window_col r e
  have hg := g.isLt
  have he := e.isLt
  unfold ScatterDims.resultIdx?
  split
  · next h =>
    have h0 := h 0
    rw [s0, w0] at h0
    rw [Option.some_inj]
    constructor
    · intro heq
      have e0 := congrArg Fin.val (congrFun heq 0)
      have e1 := congrArg Fin.val (congrFun heq 1)
      change (ScatterDims.start scatter_S64x512_S100000x1_S100000x512_1_0_0_1 (ix2 r e) idx 0 + (ScatterDims.window scatter_S64x512_S100000x1_S100000x512_1_0_0_1 (ix2 r e) 0 : Int)).toNat = g.val at e0
      change (ScatterDims.start scatter_S64x512_S100000x1_S100000x512_1_0_0_1 (ix2 r e) idx 1 + (ScatterDims.window scatter_S64x512_S100000x1_S100000x512_1_0_0_1 (ix2 r e) 1 : Int)).toNat = d.val at e1
      rw [s0, w0] at e0
      rw [s1, w1] at e1
      exact ⟨by omega, Fin.ext (by omega)⟩
    · rintro ⟨hi, rfl⟩
      funext a
      apply Fin.ext
      match a with
      | ⟨0, _⟩ =>
        show (ScatterDims.start scatter_S64x512_S100000x1_S100000x512_1_0_0_1 (ix2 r e) idx 0 + (ScatterDims.window scatter_S64x512_S100000x1_S100000x512_1_0_0_1 (ix2 r e) 0 : Int)).toNat = g.val
        rw [s0, w0]; omega
      | ⟨1, _⟩ =>
        show (ScatterDims.start scatter_S64x512_S100000x1_S100000x512_1_0_0_1 (ix2 r e) idx 1 + (ScatterDims.window scatter_S64x512_S100000x1_S100000x512_1_0_0_1 (ix2 r e) 1 : Int)).toNat = e.val
        rw [s1, w1]; omega
  · next h =>
    constructor
    · intro heq; cases heq
    · rintro ⟨hi, rfl⟩
      refine (h fun a => ?_).elim
      match a with
      | ⟨0, _⟩ =>
        show 0 ≤ ScatterDims.start scatter_S64x512_S100000x1_S100000x512_1_0_0_1 (ix2 r e) idx 0 + (ScatterDims.window scatter_S64x512_S100000x1_S100000x512_1_0_0_1 (ix2 r e) 0 : Int) ∧ ScatterDims.start scatter_S64x512_S100000x1_S100000x512_1_0_0_1 (ix2 r e) idx 0 + (ScatterDims.window scatter_S64x512_S100000x1_S100000x512_1_0_0_1 (ix2 r e) 0 : Int) < (64 : Int)
        rw [s0, w0]; omega
      | ⟨1, _⟩ =>
        show 0 ≤ ScatterDims.start scatter_S64x512_S100000x1_S100000x512_1_0_0_1 (ix2 r e) idx 1 + (ScatterDims.window scatter_S64x512_S100000x1_S100000x512_1_0_0_1 (ix2 r e) 1 : Int) ∧ ScatterDims.start scatter_S64x512_S100000x1_S100000x512_1_0_0_1 (ix2 r e) idx 1 + (ScatterDims.window scatter_S64x512_S100000x1_S100000x512_1_0_0_1 (ix2 r e) 1 : Int) < (512 : Int)
        rw [s1, w1]; omega

/-- The segment sum at `(g, d)`: the operand there plus column `d` of every update row whose index word is `g`. -/
theorem scatterAdd_apply (x : FVec Ideal S64x512 .f32) (idx : IVec S100000x1 32) (upd : FVec Ideal S100000x512 .f32)
    (g : Fin 64) (d : Fin 512) :
    Host.scatterAdd scatter_S64x512_S100000x1_S100000x512_1_0_0_1 x idx upd (ix2 g d)
      = x (ix2 g d) + ∑ r : Fin 100000, if (idx (ix2 r (0 : Fin 1))).toInt = (g.val : Int) then upd (ix2 r d) else 0 := by
  show x (ix2 g d) + (∑ j ∈ Finset.univ.filter
    (fun j => ScatterDims.resultIdx? scatter_S64x512_S100000x1_S100000x512_1_0_0_1 j idx = some (ix2 g d)), upd j) = _
  refine congrArg (fun s => x (ix2 g d) + s) ?_
  rw [Finset.sum_filter, sum_idx2]
  refine Finset.sum_congr rfl fun r _ => ?_
  rw [Finset.sum_eq_single d]
  · simp only [lands, and_true]
  · intro e _ hne
    rw [if_neg]
    rw [lands]
    exact fun h => hne h.2
  · intro h; exact (h (Finset.mem_univ d)).elim

end Cert.ReferenceIdeal.Segment

end
-- ==== Proof.Reference.lean ====
/- What the reference computes: the pooled sums of its arguments. -/
module

public import proofs.«01_k».proof.Proof.RefScatter
public import proofs.«01_k».proof.Proof.Gen.ReferenceIdeal.Run
public import Idealize.ShloMosaic.Lib.Claim

@[expose] public section

set_option maxRecDepth 16384

noncomputable section

namespace Cert.ReferenceIdeal.Segment

open Idealize.ShloMosaic Idealize.ShloMosaic.TcCoe Idealize.SL.Sem Cert.ReferenceIdeal Cert.ReferenceIdeal.Gen Cert.Pooling

/-- The reference's update rows: every row of `X` times its weight. -/
def scaled (X : FVec Ideal S100000x512 .f32) (hub : FVec Ideal S100000 .f32) (W1 : FVec Ideal S512x256 .f32) (b1 : FVec Ideal S256 .f32)
    (W2 : FVec Ideal S256x1 .f32) (b2 : FVec Ideal S1 .f32) : FVec Ideal S100000x512 .f32 :=
  mulf X (broadcastInDim S100000x512 ![0, 1] bcast_S100000x1_S100000x512_0_1 (broadcastInDim S100000x1 ![0] bcast_S100000_S100000x1_0 (mulf (shapeCast _ (Host.divf (broadcastInDim S100000x1 ![] bcast_S_S100000x1 (constant S_ .f32 0x3F800000#32)) (addf (broadcastInDim S100000x1 ![] bcast_S_S100000x1 (constant S_ .f32 0x3F800000#32)) (Host.exp (Host.negf (addf (Host.dotGeneral dot_S100000x256_S256x1_S100000x1_1_0_0_1_n_n none (maximumf (addf (Host.dotGeneral dot_S100000x512_S512x256_S100000x256_1_0_0_1_n_n none X W1) (broadcastInDim S100000x256 ![0, 1] bcast_S1x256_S100000x256_0_1 (broadcastInDim S1x256 ![1] bcast_S256_S1x256_1 b1))) (broadcastInDim S100000x256 ![] bcast_S_S100000x256 (constant S_ .f32 0x00000000#32))) W2) (broadcastInDim S100000x1 ![0, 1] bcast_S1x1_S100000x1_0_1 (broadcastInDim S1x1 ![1] bcast_S1_S1x1_1 b2))))))) shapeCasts_S100000x1_S100000) (addf (broadcastInDim S100000 ![] bcast_S_S100000 (constant S_ .f32 0x3F800000#32)) (mulf (broadcastInDim S100000 ![] bcast_S_S100000 (constant S_ .f32 0x40000000#32)) hub)))))

/-- An update row at column `d`: the row's entry times the row's weight. -/
theorem scaled_apply (X : FVec Ideal S100000x512 .f32) (hub : FVec Ideal S100000 .f32) (W1 : FVec Ideal S512x256 .f32) (b1 : FVec Ideal S256 .f32)
    (W2 : FVec Ideal S256x1 .f32) (b2 : FVec Ideal S1 .f32) (r : Fin 100000) (d : Fin 512) :
    scaled X hub W1 b1 W2 b2 (ix2 r d)
      = X (ix2 r d) * weight (fun k j => W1 (ix2 k j)) (fun j => b1 (ix1 j)) (fun j => W2 (ix2 j (0 : Fin 1))) (b2 (ix1 (0 : Fin 1)))
          (fun k => X (ix2 r k)) (hub (ix1 r)) := by
  pointwise [scaled]
  rfl

/-- The row of index words the segment sum reads is the graph numbers. -/
theorem graph_word (gr : IVec S100000 32) (r : Fin 100000) :
    (broadcastInDim S100000x1 ![0] bcast_S100000_S100000x1_0 gr) (ix2 r (0 : Fin 1)) = gr (ix1 r) := by
  pointwise

/-- The segment sum starts from zero. -/
theorem zero_start (i : S64x512.Idx) :
    (broadcastInDim S64x512 ![] bcast_S_S64x512 (constant (F := Ideal) S_ .f32 0x00000000#32)) i = (0 : EReal) := by
  pointwise

/-- The reference's result is the pooled sums of its arguments. -/
theorem reference_eq (X : FVec Ideal S100000x512 .f32) (hub : FVec Ideal S100000 .f32) (gr : IVec S100000 32) (W1 : FVec Ideal S512x256 .f32)
    (b1 : FVec Ideal S256 .f32) (W2 : FVec Ideal S256x1 .f32) (b2 : FVec Ideal S1 .f32) :
    Host.scatterAdd scatter_S64x512_S100000x1_S100000x512_1_0_0_1
        (broadcastInDim S64x512 ![] bcast_S_S64x512 (constant (F := Ideal) S_ .f32 0x00000000#32))
        (broadcastInDim S100000x1 ![0] bcast_S100000_S100000x1_0 gr) (scaled X hub W1 b1 W2 b2)
      = pooled X hub gr W1 b1 W2 b2 := by
  funext i
  idx_vars i
  rw [scatterAdd_apply, zero_start, zero_add]
  unfold pooled
  refine Finset.sum_congr rfl fun r _ => ?_
  rw [graph_word, scaled_apply]
  rfl

/-- The reference's run ends with the pooled sums of the arguments as its result and with the arguments unchanged. -/
theorem run_pooled (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = pooled (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (Cert.ReferenceIdeal.Value.run m ρ) fun r h c =>
    ⟨(h c).1.trans (reference_eq (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))), (h c).2⟩

end Cert.ReferenceIdeal.Segment

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Reference
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference is host operations only: it runs, keeps its arguments, and has no semaphore to leave raised. -/
theorem reference_frame : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

/-- Over the extended reals the kernel and the reference end with one result, the pooled sums of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Pooling.pooled (m (c.tc.loc Cert.KernelIdeal.main_arg0))
      (m (c.tc.loc Cert.KernelIdeal.main_arg1))
      (m (c.tc.loc Cert.KernelIdeal.main_arg2))
      (m (c.tc.loc Cert.KernelIdeal.main_arg3))
      (m (c.tc.loc Cert.KernelIdeal.main_arg4))
      (m (c.tc.loc Cert.KernelIdeal.main_arg5))
      (m (c.tc.loc Cert.KernelIdeal.main_arg6)),
    θ_run_mono (Cert.KernelIdeal.Value.run_blocks m g) fun r h c => ⟨(h c).1.trans (Cert.KernelIdeal.Pool.final m c), (h c).2⟩,
    θ_run_mono (Cert.ReferenceIdeal.Segment.run_pooled m' g') fun r h c => ⟨(h c).1.trans ?_, (h c).2⟩⟩
  obtain ⟨h0, h1, h2, h3, h4, h5, h6⟩ := hagree c
  rw [h0, h1, h2, h3, h4, h5, h6]

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
